-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S8x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4608 : Shape := ⟨3, ![192, 1, 4608]⟩
abbrev S2304x36864 : Shape := ⟨2, ![2304, 36864]⟩
abbrev S72x36864 : Shape := ⟨2, ![72, 36864]⟩
abbrev S192x72x16x4 : Shape := ⟨4, ![192, 72, 16, 4]⟩
abbrev S192x72x4x16 : Shape := ⟨4, ![192, 72, 4, 16]⟩
abbrev S192x4608 : Shape := ⟨2, ![192, 4608]⟩
abbrev S192x36864 : Shape := ⟨2, ![192, 36864]⟩
abbrev S2304x512 : Shape := ⟨2, ![2304, 512]⟩
abbrev S72x512 : Shape := ⟨2, ![72, 512]⟩
abbrev S192x512 : Shape := ⟨2, ![192, 512]⟩
abbrev S32x512 : Shape := ⟨2, ![32, 512]⟩
abbrev S8x512 : Shape := ⟨2, ![8, 512]⟩
abbrev S1x512 : Shape := ⟨2, ![1, 512]⟩
abbrev S16x512 : Shape := ⟨2, ![16, 512]⟩
abbrev S16x512x1 : Shape := ⟨3, ![16, 512, 1]⟩
abbrev S256x512 : Shape := ⟨2, ![256, 512]⟩
abbrev S192x256 : Shape := ⟨2, ![192, 256]⟩

abbrev nBuf : Space → Nat
  | .hbm => 7
  | .vmem => 7
  | .smem => 0
  | _ => 0

abbrev bufTy : (tb : Table) → Fin (tcTables nBuf tb) → BufTy
  | .hbm, ⟨0, _⟩ => ⟨S192x1x4608, .bf16⟩
  | .hbm, ⟨1, _⟩ => ⟨S2304x36864, .i8⟩
  | .hbm, ⟨2, _⟩ => ⟨S72x36864, .f32⟩
  | .hbm, ⟨3, _⟩ => ⟨S192x72x16x4, .bf16⟩
  | .hbm, ⟨4, _⟩ => ⟨S192x72x4x16, .bf16⟩
  | .hbm, ⟨5, _⟩ => ⟨S192x4608, .bf16⟩
  | .hbm, ⟨6, _⟩ => ⟨S192x36864, .bf16⟩
  | .local _ .vmem, ⟨0, _⟩ => ⟨S192x4608, .bf16⟩
  | .local _ .vmem, ⟨1, _⟩ => ⟨S2304x512, .i8⟩
  | .local _ .vmem, ⟨2, _⟩ => ⟨S2304x512, .i8⟩
  | .local _ .vmem, ⟨3, _⟩ => ⟨S72x512, .f32⟩
  | .local _ .vmem, ⟨4, _⟩ => ⟨S72x512, .f32⟩
  | .local _ .vmem, ⟨5, _⟩ => ⟨S192x512, .bf16⟩
  | .local _ .vmem, ⟨6, _⟩ => ⟨S192x512, .bf16⟩
  | _, _ => ⟨S192x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S192x1x4608 : Shape := ⟨3, ![192, 1, 4608]⟩
abbrev S2304x36864 : Shape := ⟨2, ![2304, 36864]⟩
abbrev S72x36864 : Shape := ⟨2, ![72, 36864]⟩
abbrev S_ : Shape := ⟨0, ![]⟩
abbrev S72x32x36864 : Shape := ⟨3, ![72, 32, 36864]⟩
abbrev S72x1x36864 : Shape := ⟨3, ![72, 1, 36864]⟩
abbrev S1x2304x36864 : Shape := ⟨3, ![1, 2304, 36864]⟩
abbrev S2x2304x36864 : Shape := ⟨3, ![2, 2304, 36864]⟩
abbrev S192x2304x2 : Shape := ⟨3, ![192, 2304, 2]⟩
abbrev S192x2x2304 : Shape := ⟨3, ![192, 2, 2304]⟩
abbrev S192x36864 : Shape := ⟨2, ![192, 36864]⟩

abbrev nBuf : Space → Nat
  | .hbm => 171
  | .vmem => 0
  | .smem => 0
  | _ => 0

abbrev hbmTy0_0 (i : Nat) : BufTy := match i % 128 with
  | 0 => ⟨S192x1x4608, .bf16⟩
  | 1 => ⟨S2304x36864, .i8⟩
  | 2 => ⟨S72x36864, .f32⟩
  | 3 => ⟨S2304x36864, .i32⟩
  | 4 => ⟨S_, .i32⟩
  | 5 => ⟨S2304x36864, .i32⟩
  | 6 => ⟨S2304x36864, .i32⟩
  | 7 => ⟨S_, .i32⟩
  | 8 => ⟨S2304x36864, .i32⟩
  | 9 => ⟨S2304x36864, .i32⟩
  | 10 => ⟨S_, .i32⟩
  | 11 => ⟨S2304x36864, .i32⟩
  | 12 => ⟨S2304x36864, .i32⟩
  | 13 => ⟨S_, .i32⟩
  | 14 => ⟨S2304x36864, .i32⟩
  | 15 => ⟨S2304x36864, .i1⟩
  | 16 => ⟨S_, .i32⟩
  | 17 => ⟨S2304x36864, .i32⟩
  | 18 => ⟨S2304x36864, .i32⟩
  | 19 => ⟨S_, .i32⟩
  | 20 => ⟨S2304x36864, .i32⟩
  | 21 => ⟨S2304x36864, .i1⟩
  | 22 => ⟨S_, .i32⟩
  | 23 => ⟨S2304x36864, .i32⟩
  | 24 => ⟨S2304x36864, .i32⟩
  | 25 => ⟨S_, .i32⟩
  | 26 => ⟨S2304x36864, .i32⟩
  | 27 => ⟨S2304x36864, .i1⟩
  | 28 => ⟨S_, .i32⟩
  | 29 => ⟨S2304x36864, .i32⟩
  | 30 => ⟨S2304x36864, .i32⟩
  | 31 => ⟨S_, .i32⟩
  | 32 => ⟨S2304x36864, .i32⟩
  | 33 => ⟨S2304x36864, .i1⟩
  | 34 => ⟨S_, .f32⟩
  | 35 => ⟨S_, .f32⟩
  | 36 => ⟨S2304x36864, .f32⟩
  | 37 => ⟨S2304x36864, .f32⟩
  | 38 => ⟨S2304x36864, .f32⟩
  | 39 => ⟨S_, .f32⟩
  | 40 => ⟨S_, .f32⟩
  | 41 => ⟨S2304x36864, .f32⟩
  | 42 => ⟨S2304x36864, .f32⟩
  | 43 => ⟨S2304x36864, .f32⟩
  | 44 => ⟨S2304x36864, .f32⟩
  | 45 => ⟨S_, .f32⟩
  | 46 => ⟨S_, .f32⟩
  | 47 => ⟨S2304x36864, .f32⟩
  | 48 => ⟨S2304x36864, .f32⟩
  | 49 => ⟨S2304x36864, .f32⟩
  | 50 => ⟨S_, .f32⟩
  | 51 => ⟨S_, .f32⟩
  | 52 => ⟨S2304x36864, .f32⟩
  | 53 => ⟨S2304x36864, .f32⟩
  | 54 => ⟨S2304x36864, .f32⟩
  | 55 => ⟨S2304x36864, .f32⟩
  | 56 => ⟨S2304x36864, .f32⟩
  | 57 => ⟨S_, .f32⟩
  | 58 => ⟨S_, .f32⟩
  | 59 => ⟨S2304x36864, .f32⟩
  | 60 => ⟨S2304x36864, .f32⟩
  | 61 => ⟨S2304x36864, .f32⟩
  | 62 => ⟨S_, .f32⟩
  | 63 => ⟨S_, .f32⟩
  | 64 => ⟨S2304x36864, .f32⟩
  | 65 => ⟨S2304x36864, .f32⟩
  | 66 => ⟨S2304x36864, .f32⟩
  | 67 => ⟨S2304x36864, .f32⟩
  | 68 => ⟨S_, .f32⟩
  | 69 => ⟨S_, .f32⟩
  | 70 => ⟨S2304x36864, .f32⟩
  | 71 => ⟨S2304x36864, .f32⟩
  | 72 => ⟨S2304x36864, .f32⟩
  | 73 => ⟨S_, .f32⟩
  | 74 => ⟨S_, .f32⟩
  | 75 => ⟨S2304x36864, .f32⟩
  | 76 => ⟨S2304x36864, .f32⟩
  | 77 => ⟨S2304x36864, .f32⟩
  | 78 => ⟨S2304x36864, .f32⟩
  | 79 => ⟨S2304x36864, .f32⟩
  | 80 => ⟨S2304x36864, .f32⟩
  | 81 => ⟨S72x32x36864, .f32⟩
  | 82 => ⟨S72x1x36864, .f32⟩
  | 83 => ⟨S72x32x36864, .f32⟩
  | 84 => ⟨S72x32x36864, .f32⟩
  | 85 => ⟨S2304x36864, .f32⟩
  | 86 => ⟨S2304x36864, .bf16⟩
  | 87 => ⟨S_, .i32⟩
  | 88 => ⟨S2304x36864, .i32⟩
  | 89 => ⟨S2304x36864, .i32⟩
  | 90 => ⟨S_, .i32⟩
  | 91 => ⟨S2304x36864, .i32⟩
  | 92 => ⟨S2304x36864, .i1⟩
  | 93 => ⟨S_, .i32⟩
  | 94 => ⟨S2304x36864, .i32⟩
  | 95 => ⟨S2304x36864, .i32⟩
  | 96 => ⟨S_, .i32⟩
  | 97 => ⟨S2304x36864, .i32⟩
  | 98 => ⟨S2304x36864, .i1⟩
  | 99 => ⟨S_, .i32⟩
  | 100 => ⟨S2304x36864, .i32⟩
  | 101 => ⟨S2304x36864, .i32⟩
  | 102 => ⟨S_, .i32⟩
  | 103 => ⟨S2304x36864, .i32⟩
  | 104 => ⟨S2304x36864, .i1⟩
  | 105 => ⟨S_, .i32⟩
  | 106 => ⟨S2304x36864, .i32⟩
  | 107 => ⟨S2304x36864, .i32⟩
  | 108 => ⟨S_, .i32⟩
  | 109 => ⟨S2304x36864, .i32⟩
  | 110 => ⟨S2304x36864, .i1⟩
  | 111 => ⟨S_, .f32⟩
  | 112 => ⟨S_, .f32⟩
  | 113 => ⟨S2304x36864, .f32⟩
  | 114 => ⟨S2304x36864, .f32⟩
  | 115 => ⟨S2304x36864, .f32⟩
  | 116 => ⟨S_, .f32⟩
  | 117 => ⟨S_, .f32⟩
  | 118 => ⟨S2304x36864, .f32⟩
  | 119 => ⟨S2304x36864, .f32⟩
  | 120 => ⟨S2304x36864, .f32⟩
  | 121 => ⟨S2304x36864, .f32⟩
  | 122 => ⟨S_, .f32⟩
  | 123 => ⟨S_, .f32⟩
  | 124 => ⟨S2304x36864, .f32⟩
  | 125 => ⟨S2304x36864, .f32⟩
  | 126 => ⟨S2304x36864, .f32⟩
  | 127 => ⟨S_, .f32⟩
  | _ => ⟨S192x1x4608, .bf16⟩

abbrev hbmTy0_1 (i : Nat) : BufTy := match i % 128 with
  | 0 => ⟨S_, .f32⟩
  | 1 => ⟨S2304x36864, .f32⟩
  | 2 => ⟨S2304x36864, .f32⟩
  | 3 => ⟨S2304x36864, .f32⟩
  | 4 => ⟨S2304x36864, .f32⟩
  | 5 => ⟨S2304x36864, .f32⟩
  | 6 => ⟨S_, .f32⟩
  | 7 => ⟨S_, .f32⟩
  | 8 => ⟨S2304x36864, .f32⟩
  | 9 => ⟨S2304x36864, .f32⟩
  | 10 => ⟨S2304x36864, .f32⟩
  | 11 => ⟨S_, .f32⟩
  | 12 => ⟨S_, .f32⟩
  | 13 => ⟨S2304x36864, .f32⟩
  | 14 => ⟨S2304x36864, .f32⟩
  | 15 => ⟨S2304x36864, .f32⟩
  | 16 => ⟨S2304x36864, .f32⟩
  | 17 => ⟨S_, .f32⟩
  | 18 => ⟨S_, .f32⟩
  | 19 => ⟨S2304x36864, .f32⟩
  | 20 => ⟨S2304x36864, .f32⟩
  | 21 => ⟨S2304x36864, .f32⟩
  | 22 => ⟨S_, .f32⟩
  | 23 => ⟨S_, .f32⟩
  | 24 => ⟨S2304x36864, .f32⟩
  | 25 => ⟨S2304x36864, .f32⟩
  | 26 => ⟨S2304x36864, .f32⟩
  | 27 => ⟨S2304x36864, .f32⟩
  | 28 => ⟨S2304x36864, .f32⟩
  | 29 => ⟨S2304x36864, .f32⟩
  | 30 => ⟨S72x32x36864, .f32⟩
  | 31 => ⟨S72x1x36864, .f32⟩
  | 32 => ⟨S72x32x36864, .f32⟩
  | 33 => ⟨S72x32x36864, .f32⟩
  | 34 => ⟨S2304x36864, .f32⟩
  | 35 => ⟨S2304x36864, .bf16⟩
  | 36 => ⟨S1x2304x36864, .bf16⟩
  | 37 => ⟨S1x2304x36864, .bf16⟩
  | 38 => ⟨S2x2304x36864, .bf16⟩
  | 39 => ⟨S192x2304x2, .bf16⟩
  | 40 => ⟨S192x2x2304, .bf16⟩
  | 41 => ⟨S192x36864, .f32⟩
  | 42 => ⟨S192x36864, .bf16⟩
  | _ => ⟨S192x1x4608, .bf16⟩

abbrev hbmTy (i : Nat) : BufTy := match i / 128 with
  | 0 => hbmTy0_0 i
  | 1 => hbmTy0_1 i
  | _ => ⟨S192x1x4608, .bf16⟩

abbrev bufTy : (tb : Table) → Fin (tcTables nBuf tb) → BufTy
  | .hbm, ⟨i, _⟩ => hbmTy i
  | _, _ => ⟨S192x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_c_8 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_cst_9 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_10 : Ref sig .tc := ⟨.hbm, 39, rfl⟩
abbrev main_cst_11 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_cst_12 : Ref sig .tc := ⟨.hbm, 45, rfl⟩
abbrev main_cst_13 : Ref sig .tc := ⟨.hbm, 46, rfl⟩
abbrev main_call3_v0 : Ref sig .tc := ⟨.hbm, 47, rfl⟩
abbrev main_call3_v1 : Ref sig .tc := ⟨.hbm, 48, rfl⟩
abbrev main_v24 : Ref sig .tc := ⟨.hbm, 49, rfl⟩
abbrev main_cst_14 : Ref sig .tc := ⟨.hbm, 50, rfl⟩
abbrev main_cst_15 : Ref sig .tc := ⟨.hbm, 51, rfl⟩
abbrev main_call4_v0 : Ref sig .tc := ⟨.hbm, 52, rfl⟩
abbrev main_call4_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_16 : Ref sig .tc := ⟨.hbm, 57, rfl⟩
abbrev main_cst_17 : Ref sig .tc := ⟨.hbm, 58, rfl⟩
abbrev main_call7_v0 : Ref sig .tc := ⟨.hbm, 59, rfl⟩
abbrev main_call7_v1 : Ref sig .tc := ⟨.hbm, 60, rfl⟩
abbrev main_v28 : Ref sig .tc := ⟨.hbm, 61, rfl⟩
abbrev main_cst_18 : Ref sig .tc := ⟨.hbm, 62, rfl⟩
abbrev main_cst_19 : Ref sig .tc := ⟨.hbm, 63, rfl⟩
abbrev main_call8_v0 : Ref sig .tc := ⟨.hbm, 64, rfl⟩
abbrev main_call8_v1 : Ref sig .tc := ⟨.hbm, 65, rfl⟩
abbrev main_v29 : Ref sig .tc := ⟨.hbm, 66, rfl⟩
abbrev main_v30 : Ref sig .tc := ⟨.hbm, 67, rfl⟩
abbrev main_cst_20 : Ref sig .tc := ⟨.hbm, 68, rfl⟩
abbrev main_cst_21 : Ref sig .tc := ⟨.hbm, 69, rfl⟩
abbrev main_call10_v0 : Ref sig .tc := ⟨.hbm, 70, rfl⟩
abbrev main_call10_v1 : Ref sig .tc := ⟨.hbm, 71, rfl⟩
abbrev main_v31 : Ref sig .tc := ⟨.hbm, 72, rfl⟩
abbrev main_cst_22 : Ref sig .tc := ⟨.hbm, 73, rfl⟩
abbrev main_cst_23 : Ref sig .tc := ⟨.hbm, 74, rfl⟩
abbrev main_call11_v0 : Ref sig .tc := ⟨.hbm, 75, rfl⟩
abbrev main_call11_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_24 : Ref sig .tc := ⟨.hbm, 87, rfl⟩
abbrev main_v42 : Ref sig .tc := ⟨.hbm, 88, rfl⟩
abbrev main_v43 : Ref sig .tc := ⟨.hbm, 89, rfl⟩
abbrev main_c_25 : Ref sig .tc := ⟨.hbm, 90, rfl⟩
abbrev main_v44 : Ref sig .tc := ⟨.hbm, 91, rfl⟩
abbrev main_v45 : Ref sig .tc := ⟨.hbm, 92, rfl⟩
abbrev main_c_26 : Ref sig .tc := ⟨.hbm, 93, rfl⟩
abbrev main_v46 : Ref sig .tc := ⟨.hbm, 94, rfl⟩
abbrev main_v47 : Ref sig .tc := ⟨.hbm, 95, rfl⟩
abbrev main_c_27 : Ref sig .tc := ⟨.hbm, 96, rfl⟩
abbrev main_v48 : Ref sig .tc := ⟨.hbm, 97, rfl⟩
abbrev main_v49 : Ref sig .tc := ⟨.hbm, 98, rfl⟩
abbrev main_c_28 : Ref sig .tc := ⟨.hbm, 99, rfl⟩
abbrev main_v50 : Ref sig .tc := ⟨.hbm, 100, rfl⟩
abbrev main_v51 : Ref sig .tc := ⟨.hbm, 101, rfl⟩
abbrev main_c_29 : Ref sig .tc := ⟨.hbm, 102, rfl⟩
abbrev main_v52 : Ref sig .tc := ⟨.hbm, 103, rfl⟩
abbrev main_v53 : Ref sig .tc := ⟨.hbm, 104, rfl⟩
abbrev main_c_30 : Ref sig .tc := ⟨.hbm, 105, rfl⟩
abbrev main_v54 : Ref sig .tc := ⟨.hbm, 106, rfl⟩
abbrev main_v55 : Ref sig .tc := ⟨.hbm, 107, rfl⟩
abbrev main_c_31 : Ref sig .tc := ⟨.hbm, 108, rfl⟩
abbrev main_v56 : Ref sig .tc := ⟨.hbm, 109, rfl⟩
abbrev main_v57 : Ref sig .tc := ⟨.hbm, 110, rfl⟩
abbrev main_cst_32 : Ref sig .tc := ⟨.hbm, 111, rfl⟩
abbrev main_cst_33 : Ref sig .tc := ⟨.hbm, 112, rfl⟩
abbrev main_call15_v0 : Ref sig .tc := ⟨.hbm, 113, rfl⟩
abbrev main_call15_v1 : Ref sig .tc := ⟨.hbm, 114, rfl⟩
abbrev main_v58 : Ref sig .tc := ⟨.hbm, 115, rfl⟩
abbrev main_cst_34 : Ref sig .tc := ⟨.hbm, 116, rfl⟩
abbrev main_cst_35 : Ref sig .tc := ⟨.hbm, 117, rfl⟩
abbrev main_call16_v0 : Ref sig .tc := ⟨.hbm, 118, rfl⟩
abbrev main_call16_v1 : Ref sig .tc := ⟨.hbm, 119, rfl⟩
abbrev main_v59 : Ref sig .tc := ⟨.hbm, 120, rfl⟩
abbrev main_v60 : Ref sig .tc := ⟨.hbm, 121, rfl⟩
abbrev main_cst_36 : Ref sig .tc := ⟨.hbm, 122, rfl⟩
abbrev main_cst_37 : Ref sig .tc := ⟨.hbm, 123, rfl⟩
abbrev main_call18_v0 : Ref sig .tc := ⟨.hbm, 124, rfl⟩
abbrev main_call18_v1 : Ref sig .tc := ⟨.hbm, 125, rfl⟩
abbrev main_v61 : Ref sig .tc := ⟨.hbm, 126, rfl⟩
abbrev main_cst_38 : Ref sig .tc := ⟨.hbm, 127, rfl⟩
abbrev main_cst_39 : Ref sig .tc := ⟨.hbm, 128, rfl⟩
abbrev main_call19_v0 : Ref sig .tc := ⟨.hbm, 129, rfl⟩
abbrev main_call19_v1 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_40 : Ref sig .tc := ⟨.hbm, 134, rfl⟩
abbrev main_cst_41 : Ref sig .tc := ⟨.hbm, 135, rfl⟩
abbrev main_call22_v0 : Ref sig .tc := ⟨.hbm, 136, rfl⟩
abbrev main_call22_v1 : Ref sig .tc := ⟨.hbm, 137, rfl⟩
abbrev main_v65 : Ref sig .tc := ⟨.hbm, 138, rfl⟩
abbrev main_cst_42 : Ref sig .tc := ⟨.hbm, 139, rfl⟩
abbrev main_cst_43 : Ref sig .tc := ⟨.hbm, 140, rfl⟩
abbrev main_call23_v0 : Ref sig .tc := ⟨.hbm, 141, rfl⟩
abbrev main_call23_v1 : Ref sig .tc := ⟨.hbm, 142, rfl⟩
abbrev main_v66 : Ref sig .tc := ⟨.hbm, 143, rfl⟩
abbrev main_v67 : Ref sig .tc := ⟨.hbm, 144, rfl⟩
abbrev main_cst_44 : Ref sig .tc := ⟨.hbm, 145, rfl⟩
abbrev main_cst_45 : Ref sig .tc := ⟨.hbm, 146, rfl⟩
abbrev main_call25_v0 : Ref sig .tc := ⟨.hbm, 147, rfl⟩
abbrev main_call25_v1 : Ref sig .tc := ⟨.hbm, 148, rfl⟩
abbrev main_v68 : Ref sig .tc := ⟨.hbm, 149, rfl⟩
abbrev main_cst_46 : Ref sig .tc := ⟨.hbm, 150, rfl⟩
abbrev main_cst_47 : Ref sig .tc := ⟨.hbm, 151, rfl⟩
abbrev main_call26_v0 : Ref sig .tc := ⟨.hbm, 152, rfl⟩
abbrev main_call26_v1 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩

abbrev nD : Nat := 1
abbrev τ : Topo := Topo.v7x

variable {F : FTy → Type} [FloatOps F]
-- ==== Proof.Body.lean ====
/- The kernel's body as one short expression. The body unpacks 18 tiles of 256 weight rows one after another, each from
   4 blocks of 64 rows, and adds the product of the activations with each tile into an accumulator. The definitions
   here say that once for a block and once for a tile; `out_eq` says that the body computes exactly this. -/
module

public import proofs.«01_k».proof.Proof.Gen.KernelIdeal.Frame
public import Idealize.ShloMosaic.Lib.Pipeline.Value

@[expose] public section

noncomputable section

namespace Cert.KernelIdeal.Body

open Idealize.ShloMosaic Idealize.ShloMosaic.TcCoe
open Cert.KernelIdeal Cert.KernelIdeal.Gen

variable {F : FTy → Type} [FloatOps F]

/-- One entry of a table: row `i` is set to the number with the bits `c`. -/
def put (i c : BitVec 32) (x : FVec F S8x512 .f32) : FVec F S8x512 .f32 :=
  select (cmpi .eq (iota .tc S8x512 32 [0] iota_S8x512_d0_w32) (broadcast S8x512 i))
    (broadcast S8x512 (Scalar.ofBits .f32 c)) x

/-- The table before any entry is set. -/
def noRows : FVec F S8x512 .f32 := broadcast S8x512 (Scalar.ofBits .f32 0x00000000#32)

/-- The values of the even codes 0, 2, …, 14, one code to a row. -/
def evenRows : FVec F S8x512 .f32 :=
  put 7#32 0x3F3913B3#32 (put 6#32 0x3EE1A4B8#32 (put 5#32 0x3E7C04DD#32 (put 4#32 0x3DA2FAFF#32
    (put 3#32 0xBDBA7871#32 (put 2#32 0xBE91A24D#32 (put 1#32 0xBF066B30#32 (put 0#32 0xBF800000#32 noRows)))))))

/-- The values of the odd codes 1, 3, …, 15, one code to a row. -/
def oddRows : FVec F S8x512 .f32 :=
  put 7#32 0x3F800000#32 (put 6#32 0x3F1007AB#32 (put 5#32 0x3EAD033A#32 (put 4#32 0x3E24CAE3#32
    (put 3#32 0x00000000#32 (put 2#32 0xBE3D353F#32 (put 1#32 0xBECA32A0#32 (put 0#32 0xBF3239B1#32 noRows)))))))

/-- Whether a byte row is odd. -/
def oddMask : IVec S32x512 1 :=
  cmpi .eq (andi (trunci 8 (iota .tc S32x512 32 [0] iota_S32x512_d0_w32) natLt_8_32) (broadcast S32x512 1#8))
    (broadcast S32x512 1#8)

/-- The table of the 16 scaled values of a block, the value of code `v` in row `v`: the even codes' values and the odd
    codes' values, each times the block's scale, interleaved. -/
def table (s : Vec F S1x512 .f32) : FVec F S16x512 .bf16 :=
  interleaveRows S16x512
    (truncf .bf16 (mulf evenRows (broadcastTo S8x512 s broadcasts_S1x512_S8x512)))
    (truncf .bf16 (mulf oddRows (broadcastTo S8x512 s broadcasts_S1x512_S8x512)))
    bitcasts_S16x512_w16_S8x512_w32

/-- The table's rows picked by bytes: a pair of byte rows picks one row, by the first byte of the pair over 2. -/
def pick (s : Vec F S1x512 .f32) (i : IVec S32x512 8) : FVec F S16x512 .bf16 :=
  dynamicGather 0 (table s)
    (shapeCast S16x512 (shapeCast S16x512x1
      (shrsi (andi (extui 32
          (bitcast S16x512 16 (bitcast S8x512 32 i bitcasts_S32x512_w8_S8x512_w32) bitcasts_S8x512_w32_S16x512_w16)
          natLt_16_32)
        (broadcast S16x512 255#32)) (broadcast S16x512 1#32))
      shapeCasts_S16x512_S16x512x1) shapeCasts_S16x512x1_S16x512)

/-- The low codes of the bytes, each times 2, four bytes to a word. -/
def lowWord (w : IVec S32x512 8) : IVec S8x512 32 :=
  andi (shli (bitcast S8x512 32 w bitcasts_S32x512_w8_S8x512_w32) (broadcast S8x512 1#32)) (broadcast S8x512 505290270#32)

/-- The high codes of the bytes, each times 2, four bytes to a word. -/
def highWord (w : IVec S32x512 8) : IVec S8x512 32 :=
  andi (shrui (bitcast S8x512 32 w bitcasts_S32x512_w8_S8x512_w32) (broadcast S8x512 3#32)) (broadcast S8x512 505290270#32)

/-- The same words with the last bit of each byte set. -/
def marked (a : IVec S8x512 32) : IVec S8x512 32 := ori a (broadcast S8x512 16843009#32)

/-- The bytes that pick for the even byte rows. -/
def evenBytes (a : IVec S8x512 32) : IVec S32x512 8 :=
  bitcast S32x512 8
    (ori (andi a (broadcast S8x512 16711935#32))
      (shli (andi (marked a) (broadcast S8x512 16711935#32)) (broadcast S8x512 8#32)))
    bitcasts_S8x512_w32_S32x512_w8

/-- The bytes that pick for the odd byte rows. -/
def oddBytes (a : IVec S8x512 32) : IVec S32x512 8 :=
  select oddMask (bitcast S32x512 8 (marked a) bitcasts_S8x512_w32_S32x512_w8)
    (bitcast S32x512 8 (shrui a (broadcast S8x512 8#32)) bitcasts_S8x512_w32_S32x512_w8)

theorem inbW (b : Nat) (h : b < 72) :
    ∀ a, (![32 * b, 0] : Fin 2 → Nat) a + S32x512.size a ≤ S2304x512.size a := by
  intro a; fin_cases a
  · show 32 * b + 32 ≤ 2304; omega
  · show 0 + 512 ≤ 512; omega

theorem inbS (b : Nat) (h : b < 72) :
    ∀ a, (![b, 0] : Fin 2 → Nat) a + S1x512.size a ≤ S72x512.size a := by
  intro a; fin_cases a
  · show b + 1 ≤ 72; omega
  · show 0 + 512 ≤ 512; omega

theorem inbX (k : Nat) (h : k < 18) :
    ∀ a, (![0, 256 * k] : Fin 2 → Nat) a + S192x256.size a ≤ S192x4608.size a := by
  intro a; fin_cases a
  · show 0 + 192 ≤ 192; omega
  · show 256 * k + 256 ≤ 4608; omega

/-- The 32 byte rows of block `b`. -/
def bytes (x1 : Vec F S2304x512 .i8) (b : Nat) (h : b < 72) : IVec S32x512 8 :=
  View.ld x1 (Rect.unit (s := S2304x512) ![32 * b, 0] S32x512.size (inbW b h))

/-- The scale row of block `b`. -/
def scale (x2 : Vec F S72x512 .f32) (b : Nat) (h : b < 72) : Vec F S1x512 .f32 :=
  View.ld x2 (Rect.unit (s := S72x512) ![b, 0] S1x512.size (inbS b h))

/-- Piece 0 of a block: the low codes of the even byte rows. -/
def piece0 (w : IVec S32x512 8) (s : Vec F S1x512 .f32) : FVec F S16x512 .bf16 := pick s (evenBytes (lowWord w))
/-- Piece 1 of a block: the high codes of the even byte rows. -/
def piece1 (w : IVec S32x512 8) (s : Vec F S1x512 .f32) : FVec F S16x512 .bf16 := pick s (evenBytes (highWord w))
/-- Piece 2 of a block: the low codes of the odd byte rows. -/
def piece2 (w : IVec S32x512 8) (s : Vec F S1x512 .f32) : FVec F S16x512 .bf16 := pick s (oddBytes (lowWord w))
/-- Piece 3 of a block: the high codes of the odd byte rows. -/
def piece3 (w : IVec S32x512 8) (s : Vec F S1x512 .f32) : FVec F S16x512 .bf16 := pick s (oddBytes (highWord w))

/-- The four pieces of a block in front of a list of pieces. -/
abbrev block (w : IVec S32x512 8) (s : Vec F S1x512 .f32)
    (r : List ((s : Shape) × (s.Idx → F .bf16))) : List ((s : Shape) × (s.Idx → F .bf16)) :=
  ⟨S16x512, piece0 w s⟩ :: ⟨S16x512, piece1 w s⟩ :: ⟨S16x512, piece2 w s⟩ :: ⟨S16x512, piece3 w s⟩ :: r

/-- Tile `k` of the weights: four blocks, 256 rows. -/
def tile (x1 : Vec F S2304x512 .i8) (x2 : Vec F S72x512 .f32) (k : Nat) (h : k < 18) : FVec F S256x512 .bf16 :=
  concatenate S256x512 0
    (block (bytes x1 (4 * k) (by omega)) (scale x2 (4 * k) (by omega))
      (block (bytes x1 (4 * k + 1) (by omega)) (scale x2 (4 * k + 1) (by omega))
        (block (bytes x1 (4 * k + 2) (by omega)) (scale x2 (4 * k + 2) (by omega))
          (block (bytes x1 (4 * k + 3) (by omega)) (scale x2 (4 * k + 3) (by omega)) []))))
    concatenates_S16x512_S16x512_S16x512_S16x512_S16x512_S16x512_S16x512_S16x512_S16x512_S16x512_S16x512_S16x512_S16x512_S16x512_S16x512_S16x512_S256x512_d0

/-- The activations' columns of tile `k`. -/
def cols (x0 : Vec F S192x4608 .bf16) (k : Nat) (h : k < 18) : FVec F S192x256 .bf16 :=
  shapeCast S192x256 (View.ld x0 (Rect.unit (s := S192x4608) ![0, 256 * k] S192x256.size (inbX k h)))
    shapeCasts_S192x256_S192x256

/-- The accumulator after the first `k` tiles. -/
def acc (x0 : Vec F S192x4608 .bf16) (x1 : Vec F S2304x512 .i8) (x2 : Vec F S72x512 .f32) :
    (k : Nat) → k ≤ 18 → FVec F S192x512 .f32
  | 0, _ => broadcast S192x512 (Scalar.ofBits .f32 0x00000000#32)
  | k + 1, h => addf (acc x0 x1 x2 k (Nat.le_of_succ_le h))
      (matmul dot_S192x256_S256x512_S192x512_1_0_0_1_n_n none (cols x0 k h) (tile x1 x2 k h)
        (constant S192x512 .f32 0x00000000#32))

/-- The block of the result: the accumulator after all tiles, in the result's format. -/
def out (x0 : Vec F S192x4608 .bf16) (x1 : Vec F S2304x512 .i8) (x2 : Vec F S72x512 .f32) : FVec F S192x512 .bf16 :=
  truncf .bf16 (acc x0 x1 x2 18 (Nat.le_refl 18)) bitsLt_bf16_f32

set_option maxRecDepth 65536 in
set_option maxHeartbeats 4000000 in
/-- What the body stores is `out`. -/
theorem out_eq (x0 : Vec F S192x4608 .bf16) (x1 : Vec F S2304x512 .i8) (x2 : Vec F S72x512 .f32) :
    out0_3 x0 x1 x2 = out x0 x1 x2 := by
  unfold out0_3
  refine (View.canon_unit_zero (by decide) _ _).trans ?_
  rfl

end Cert.KernelIdeal.Body
-- ==== Proof.Bits.lean ====
/- The bits of the kernel's words: what the word operations leave in a byte, and which byte a row pick reads. -/
module

public import proofs.«01_k».proof.Proof.Body
public import Idealize.ShloMosaic.Lib.BitcastFour

@[expose] public section

noncomputable section

namespace Cert.KernelIdeal.Bits

open Idealize.ShloMosaic Idealize.ShloMosaic.ValueIdx
open Cert.KernelIdeal Cert.KernelIdeal.Gen Cert.KernelIdeal.Body

/-- The low code of a byte. -/
def low (b : BitVec 8) : BitVec 8 := b &&& 15#8
/-- The high code of a byte. -/
def high (b : BitVec 8) : BitVec 8 := b >>> 4

theorem low_toNat (b : BitVec 8) : (low b).toNat = b.toNat % 16 := by
  unfold low; rw [BitVec.toNat_and]; exact Nat.and_two_pow_sub_one_eq_mod b.toNat 4
theorem high_toNat (b : BitVec 8) : (high b).toNat = b.toNat / 16 := by
  unfold high; rw [BitVec.toNat_ushiftRight, Nat.shiftRight_eq_div_pow]

/-! ## Reinterpretations of rows -/

/-- Byte row `j` of words viewed as bytes is byte `j % 4` of word row `j / 4`. -/
theorem bytes_of_words (V : IVec S8x512 32) (j : Fin 32) (l : Fin 512) (a : Fin 8) (ha : a.val = j.val / 4) :
    bitcast S32x512 8 V bitcasts_S8x512_w32_S32x512_w8 (ix2 j l) = (V (ix2 a l)).extractLsb' (8 * (j.val % 4)) 8 := by
  have H : S8x512.Bitcasts 32 S32x512 8 := bitcasts_S8x512_w32_S32x512_w8
  apply BitVec.eq_of_getLsbD_eq
  intro t ht
  rw [bitcast_getLsbD V H _ t ht (by decide), BitVec.getLsbD_extractLsb']
  have e1 : (S32x512.row (ix2 j l) * 8 + t) / 32 = a.val := by
    show (j.val * 8 + t) / 32 = a.val; omega
  have e2 : (S32x512.row (ix2 j l) * 8 + t) % 32 = 8 * (j.val % 4) + t := by
    show (j.val * 8 + t) % 32 = _; omega
  rw [e2]
  simp only [ht, decide_true, Bool.true_and]
  congr 2
  funext c
  match c with
  | ⟨0, _⟩ => exact Fin.ext ((H.srcIdx_row _ _ _ ⟨0, Nat.zero_lt_two⟩ rfl).trans e1)
  | ⟨1, _⟩ => exact Fin.ext (H.srcIdx_other _ _ _ ⟨1, Nat.one_lt_two⟩ (by show ¬ 1 + 2 = 2; omega))

/-- Row `r` of words viewed as halves is half `r % 2` of word row `r / 2`. -/
theorem halves_of_words (V : IVec S8x512 32) (r : Fin 16) (l : Fin 512) (a : Fin 8) (ha : a.val = r.val / 2) :
    bitcast S16x512 16 V bitcasts_S8x512_w32_S16x512_w16 (ix2 r l) = (V (ix2 a l)).extractLsb' (16 * (r.val % 2)) 16 := by
  have H : S8x512.Bitcasts 32 S16x512 16 := bitcasts_S8x512_w32_S16x512_w16
  apply BitVec.eq_of_getLsbD_eq
  intro t ht
  rw [bitcast_getLsbD V H _ t ht (by decide), BitVec.getLsbD_extractLsb']
  have e1 : (S16x512.row (ix2 r l) * 16 + t) / 32 = a.val := by
    show (r.val * 16 + t) / 32 = a.val; omega
  have e2 : (S16x512.row (ix2 r l) * 16 + t) % 32 = 16 * (r.val % 2) + t := by
    show (r.val * 16 + t) % 32 = _; omega
  rw [e2]
  simp only [ht, decide_true, Bool.true_and]
  congr 2
  funext c
  match c with
  | ⟨0, _⟩ => exact Fin.ext ((H.srcIdx_row _ _ _ ⟨0, Nat.zero_lt_two⟩ rfl).trans e1)
  | ⟨1, _⟩ => exact Fin.ext (H.srcIdx_other _ _ _ ⟨1, Nat.one_lt_two⟩ (by show ¬ 1 + 2 = 2; omega))

/-- Byte `k` of a word made of four byte rows is one of the rows. -/
theorem word_of_bytes (x : IVec S32x512 8) (a : Fin 8) (l : Fin 512) (k : Nat) (hk : k < 4) (p : Fin 32)
    (hp : p.val = 4 * a.val + k) :
    (bitcast S8x512 32 x bitcasts_S32x512_w8_S8x512_w32 (ix2 a l)).extractLsb' (8 * k) 8 = x (ix2 p l) := by
  apply BitVec.eq_of_getLsbD_eq
  intro t ht
  rw [BitVec.getLsbD_extractLsb']
  have H : S32x512.Bitcasts 8 S8x512 32 := bitcasts_S32x512_w8_S8x512_w32
  have := bitcast_8_32_getLsbD_ix2 x H a l (8 * k + t) (by omega) p (by omega)
  simp only [ht, decide_true, Bool.true_and]
  refine Eq.trans this ?_
  rw [show (8 * k + t) % 8 = t by omega]

/-! ## One word -/

/-- The low codes' word, by bytes. -/
theorem low_byte (W : BitVec 32) (k : Nat) (hk : k < 4) :
    (W <<< 1 &&& 505290270#32).extractLsb' (8 * k) 8 = low (W.extractLsb' (8 * k) 8) <<< 1 := by
  apply BitVec.eq_of_getLsbD_eq
  intro t ht
  unfold low
  interval_cases k <;> interval_cases t <;> simp <;> decide

/-- The high codes' word, by bytes. -/
theorem high_byte (W : BitVec 32) (k : Nat) (hk : k < 4) :
    (W >>> 3 &&& 505290270#32).extractLsb' (8 * k) 8 = high (W.extractLsb' (8 * k) 8) <<< 1 := by
  apply BitVec.eq_of_getLsbD_eq
  intro t ht
  unfold high
  interval_cases k <;> interval_cases t <;> simp <;> decide

/-- The word that picks for the even byte rows, by halves: the half's first byte is the code word's. -/
theorem even_byte (A : BitVec 32) (h : Nat) (hh : h < 2) :
    ((A &&& 16711935#32) ||| (((A ||| 16843009#32) &&& 16711935#32) <<< 8)).extractLsb' (8 * (2 * h)) 8
      = A.extractLsb' (8 * (2 * h)) 8 := by
  apply BitVec.eq_of_getLsbD_eq
  intro t ht
  interval_cases h <;> interval_cases t <;> simp <;> decide

/-- The word that picks for the odd byte rows, by halves: the half's first byte is the code word's second. -/
theorem odd_byte (A : BitVec 32) (h : Nat) (hh : h < 2) :
    (A >>> 8).extractLsb' (8 * (2 * h)) 8 = A.extractLsb' (8 * (2 * h + 1)) 8 := by
  apply BitVec.eq_of_getLsbD_eq
  intro t ht
  interval_cases h <;> interval_cases t <;> simp

/-- The row a half picks: its first byte over 2. -/
theorem half_row (b : BitVec 16) :
    (((b.setWidth 32) &&& 255#32).sshiftRight' 1#32) = ((b.extractLsb' 0 8) >>> 1).setWidth 32 := by
  have h : (b.setWidth 32 &&& 255#32).msb = false := by
    rw [BitVec.msb_and, show (255#32 : BitVec 32).msb = false from rfl, Bool.and_false]
  rw [BitVec.sshiftRight_eq', BitVec.sshiftRight_eq_of_msb_false h]
  apply BitVec.eq_of_getLsbD_eq
  intro t ht
  interval_cases t <;> simp

/-- The first byte of a half of a word. -/
theorem first_of_half (W : BitVec 32) (h : Nat) (hh : h < 2) :
    (W.extractLsb' (16 * h) 16).extractLsb' 0 8 = W.extractLsb' (8 * (2 * h)) 8 := by
  apply BitVec.eq_of_getLsbD_eq
  intro t ht
  interval_cases h <;> interval_cases t <;> simp

/-! ## What a piece's row picks -/

/-- The row of the table a pick reads for row `r`: byte row `2 r` over 2. -/
theorem pick_row (i : IVec S32x512 8) (r : Fin 16) (l : Fin 512) (p : Fin 32) (hp : p.val = 2 * r.val) :
    shapeCast S16x512 (shapeCast S16x512x1
      (shrsi (andi (extui 32
          (bitcast S16x512 16 (bitcast S8x512 32 i bitcasts_S32x512_w8_S8x512_w32) bitcasts_S8x512_w32_S16x512_w16)
          natLt_16_32)
        (broadcast S16x512 255#32)) (broadcast S16x512 1#32))
      shapeCasts_S16x512_S16x512x1) shapeCasts_S16x512x1_S16x512 (ix2 r l)
      = (i (ix2 p l) >>> 1).setWidth 32 := by
  rw [shapeCast_shapeCast]
  show IntOp.shrsi .vector (IntOp.andi ((bitcast S16x512 16 (bitcast S8x512 32 i bitcasts_S32x512_w8_S8x512_w32)
    bitcasts_S8x512_w32_S16x512_w16 (ix2 r l)).setWidth 32) 255#32) 1#32 = _
  rw [halves_of_words _ r l ⟨r.val / 2, by omega⟩ rfl]
  generalize hW : bitcast S8x512 32 i bitcasts_S32x512_w8_S8x512_w32 (ix2 ⟨r.val / 2, by omega⟩ l) = W
  show (if (1#32 : BitVec 32).toNat < 32 then
    ((W.extractLsb' (16 * (r.val % 2)) 16).setWidth 32 &&& 255#32).sshiftRight' 1#32 else _) = _
  rw [if_pos (by decide), half_row, first_of_half _ _ (by omega), ← hW,
    word_of_bytes i _ l (2 * (r.val % 2)) (by omega) p (by show p.val = 4 * (r.val / 2) + _; omega)]

/-- The words of the low codes, by bytes. -/
theorem lowWord_byte (w : IVec S32x512 8) (a : Fin 8) (l : Fin 512) (k : Nat) (hk : k < 4) (p : Fin 32)
    (hp : p.val = 4 * a.val + k) : (lowWord w (ix2 a l)).extractLsb' (8 * k) 8 = low (w (ix2 p l)) <<< 1 := by
  rw [← word_of_bytes w a l k hk p hp, ← low_byte _ k hk]; rfl

/-- The words of the high codes, by bytes. -/
theorem highWord_byte (w : IVec S32x512 8) (a : Fin 8) (l : Fin 512) (k : Nat) (hk : k < 4) (p : Fin 32)
    (hp : p.val = 4 * a.val + k) : (highWord w (ix2 a l)).extractLsb' (8 * k) 8 = high (w (ix2 p l)) <<< 1 := by
  rw [← word_of_bytes w a l k hk p hp, ← high_byte _ k hk]; rfl

/-- The bytes that pick for the even byte rows, at the rows a pick reads. -/
theorem evenBytes_apply (A : IVec S8x512 32) (r : Fin 16) (l : Fin 512) (p : Fin 32) (hp : p.val = 2 * r.val) (a : Fin 8)
    (ha : a.val = r.val / 2) :
    evenBytes A (ix2 p l) = (A (ix2 a l)).extractLsb' (8 * (2 * (r.val % 2))) 8 := by
  unfold evenBytes
  rw [bytes_of_words _ p l a (by omega), show p.val % 4 = 2 * (r.val % 2) by omega,
    ← even_byte (A (ix2 a l)) (r.val % 2) (by omega)]
  rfl

/-- An even byte row is not marked as odd. -/
theorem oddMask_even (p : Fin 32) (l : Fin 512) (h : p.val % 2 = 0) : oddMask (ix2 p l) = 0#1 := by
  have e : oddMask (ix2 p l) = IntOp.cmpi .eq (IntOp.andi ((BitVec.ofNat 32 p.val).setWidth 8) 1#8) 1#8 := by
    show IntOp.cmpi .eq (IntOp.andi ((iota .tc S32x512 32 [0] iota_S32x512_d0_w32 (ix2 p l)).setWidth 8) 1#8) 1#8 = _
    rw [iota_single_apply]
  rw [e]
  clear e
  revert h; revert p; decide

/-- The bytes that pick for the odd byte rows, at the rows a pick reads. -/
theorem oddBytes_apply (A : IVec S8x512 32) (r : Fin 16) (l : Fin 512) (p : Fin 32) (hp : p.val = 2 * r.val) (a : Fin 8)
    (ha : a.val = r.val / 2) :
    oddBytes A (ix2 p l) = (A (ix2 a l)).extractLsb' (8 * (2 * (r.val % 2) + 1)) 8 := by
  have e : oddBytes A (ix2 p l)
      = bitcast S32x512 8 (shrui A (broadcast S8x512 8#32)) bitcasts_S8x512_w32_S32x512_w8 (ix2 p l) := by
    unfold oddBytes
    rw [select_apply, oddMask_even p l (by omega)]; rfl
  rw [e, bytes_of_words _ p l a (by omega), show p.val % 4 = 2 * (r.val % 2) by omega,
    ← odd_byte (A (ix2 a l)) (r.val % 2) (by omega)]
  rfl

/-- A code times 2 over 2 is the code. -/
theorem half_double (b : BitVec 8) (h : b.toNat < 16) : ((b <<< 1 >>> 1).setWidth 32).toNat = b.toNat := by
  rw [BitVec.toNat_setWidth, BitVec.toNat_ushiftRight, BitVec.toNat_shiftLeft, Nat.shiftLeft_eq, Nat.shiftRight_eq_div_pow]
  omega

end Cert.KernelIdeal.Bits
-- ==== Proof.Nf4.lean ====
/- What both programs compute, at the extended reals: the number of a 4-bit code, the weight of a channel, the product. -/
module

public import Idealize.ShloMosaic.PureOps.Ideal
public import Idealize.ShloMosaic.Lib.ValueIdxCore

@[expose] public section

noncomputable section

namespace Cert.Nf4

open Idealize.ShloMosaic Idealize.ShloMosaic.ValueIdx
open scoped BigOperators

/-- The bits of the number a 4-bit code stands for. -/
def codeBits (v : Nat) : BitVec 32 :=
  match v with
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | _ => 0x3F800000#32

/-- The number a 4-bit code stands for. -/
def value (v : Nat) : EReal := Ideal.ofBits .f32 (codeBits v)

/-- A code of a byte: the low one for an even channel, the high one for an odd channel. -/
def code (p : Nat) (b : BitVec 8) : Nat := if p = 0 then b.toNat % 16 else b.toNat / 16

/-- The weight of channel `c`, column `l`: the value of the channel's code times the scale of its block of 64 channels. -/
def weight {n : Nat} (x1 : (⟨2, ![2304, n]⟩ : Shape).Idx → BitVec 8) (x2 : (⟨2, ![72, n]⟩ : Shape).Idx → EReal) (c : Fin 4608) (l : Fin n) : EReal :=
  value (code (c.val % 2) (x1 (ix2 ⟨c.val / 2, by omega⟩ l))) * x2 (ix2 ⟨c.val / 64, by omega⟩ l)

/-- The product the two programs compute: the activations' row `i 0` times the weights' column `i 1`, summed over the channels. -/
def product {n : Nat} (x : (⟨3, ![192, 1, 4608]⟩ : Shape).Idx → EReal) (x1 : (⟨2, ![2304, n]⟩ : Shape).Idx → BitVec 8)
    (x2 : (⟨2, ![72, n]⟩ : Shape).Idx → EReal) : (⟨2, ![192, n]⟩ : Shape).Idx → EReal :=
  fun i => ∑ c : Fin 4608, x (ix3 (i 0) (0 : Fin 1) c) * weight x1 x2 c (i 1)

end Cert.Nf4
-- ==== Proof.Weights.lean ====
/- The weights the kernel unpacks, at the extended reals: a block's table, a piece, a tile. -/
module

public import proofs.«01_k».proof.Proof.Bits
public import proofs.«01_k».proof.Proof.Nf4
public import Idealize.ShloMosaic.PureOps.Ideal
public import Idealize.ShloMosaic.Lib.ValueIdx
public import Idealize.ShloMosaic.Lib.Pointwise

@[expose] public section

noncomputable section

namespace Cert.KernelIdeal.Weights

open Idealize.ShloMosaic hiding ix2
open Idealize.ShloMosaic.ValueIdx
open Cert.Nf4
open Cert.KernelIdeal Cert.KernelIdeal.Gen Cert.KernelIdeal.Body Cert.KernelIdeal.Bits

/-- A table with one entry set, at a row. -/
theorem put_apply (i c : BitVec 32) (x : FVec Ideal S8x512 .f32) (a : Fin 8) (l : Fin 512) :
    put i c x (ix2 a l) = if BitVec.ofNat 32 a.val = i then Ideal.ofBits .f32 c else x (ix2 a l) := by
  show Scalar.select (IntOp.cmpi .eq (iota .tc S8x512 32 [0] iota_S8x512_d0_w32 (ix2 a l)) i) (Ideal.ofBits .f32 c) _ = _
  rw [iota_single_apply]
  show Scalar.select (BitVec.ofBool (BitVec.ofNat 32 a.val == i)) _ _ = _
  by_cases h : BitVec.ofNat 32 a.val = i
  · rw [if_pos h, beq_iff_eq.mpr h]; rfl
  · rw [if_neg h, beq_eq_false_iff_ne.mpr h]; rfl

theorem evenRows_apply (a : Fin 8) (l : Fin 512) : evenRows (F := Ideal) (ix2 a l) = value (2 * a.val) := by
  unfold evenRows
  simp only [put_apply]
  fin_cases a <;> simp [value, codeBits]

theorem oddRows_apply (a : Fin 8) (l : Fin 512) : oddRows (F := Ideal) (ix2 a l) = value (2 * a.val + 1) := by
  unfold oddRows
  simp only [put_apply]
  fin_cases a <;> simp [value, codeBits]

/-- Row `v` of a block's table: the value of code `v`, times the block's scale. -/
theorem table_apply (s : Vec Ideal S1x512 .f32) (v : Fin 16) (l : Fin 512) :
    table s (ix2 v l) = value v.val * s (ix2 0 l) := by
  have hb : ∀ a : Fin 8, broadcastTo S8x512 s broadcasts_S1x512_S8x512 (ix2 a l) = s (ix2 0 l) := fun a =>
    broadcastTo_apply _ _ _ _ (fun b => match b with | ⟨0, _⟩ => rfl | ⟨1, _⟩ => rfl)
  have he : ∀ a : Fin 8, (truncf .bf16 (mulf (evenRows (F := Ideal)) (broadcastTo S8x512 s broadcasts_S1x512_S8x512)) : FVec Ideal S8x512 .bf16)
      (ix2 a l) = value (2 * a.val) * s (ix2 0 l) := fun a => by
    rw [truncf_apply, mulf_apply, evenRows_apply, hb]
  have ho : ∀ a : Fin 8, (truncf .bf16 (mulf (oddRows (F := Ideal)) (broadcastTo S8x512 s broadcasts_S1x512_S8x512)) : FVec Ideal S8x512 .bf16)
      (ix2 a l) = value (2 * a.val + 1) * s (ix2 0 l) := fun a => by
    rw [truncf_apply, mulf_apply, oddRows_apply, hb]
  unfold table
  unfold interleaveRows
  dsimp only
  by_cases hv : v.val % 2 = 0
  · rw [if_pos (show S16x512.row (ix2 v l) % 2 = 0 from hv)]
    refine (congrArg _ (?_ : _ = ix2 ⟨v.val / 2, by omega⟩ l)).trans ((he _).trans ?_)
    · funext b; match b with | ⟨0, _⟩ => rfl | ⟨1, _⟩ => rfl
    · rw [show 2 * (v.val / 2) = v.val by omega]
  · rw [if_neg (show ¬ S16x512.row (ix2 v l) % 2 = 0 from hv)]
    refine (congrArg _ (?_ : _ = ix2 ⟨v.val / 2, by omega⟩ l)).trans ((ho _).trans ?_)
    · funext b; match b with | ⟨0, _⟩ => rfl | ⟨1, _⟩ => rfl
    · rw [show 2 * (v.val / 2) + 1 = v.val by omega]

/-- A pick by bytes that hold a code times 2, at a row. -/
theorem pick_apply (s : Vec Ideal S1x512 .f32) (i : IVec S32x512 8) (r : Fin 16) (l : Fin 512) (p : Fin 32)
    (hp : p.val = 2 * r.val) (b : BitVec 8) (hb : b.toNat < 16) (hi : i (ix2 p l) = b <<< 1) :
    pick s i (ix2 r l) = value b.toNat * s (ix2 0 l) := by
  have hv := table_apply s ⟨b.toNat, hb⟩ l
  rw [← hv]
  have hn := congrArg BitVec.toNat (pick_row i r l p hp)
  rw [hi, half_double b hb] at hn
  unfold pick
  refine congrArg (table s) ?_
  funext c
  match c with
  | ⟨0, _⟩ => exact Fin.ext ((congrArg (· % 16) hn).trans (Nat.mod_eq_of_lt hb))
  | ⟨1, _⟩ => rfl

/-- A block's piece `q` of the four. -/
def piece (q : Fin 4) (w : IVec S32x512 8) (s : Vec Ideal S1x512 .f32) : FVec Ideal S16x512 .bf16 :=
  match q with
  | 0 => piece0 w s
  | 1 => piece1 w s
  | 2 => piece2 w s
  | 3 => piece3 w s

/-- Piece `q` at row `r`: the low code (`q` even) or the high code (`q` odd) of byte row `2 r + q / 2`. -/
theorem piece_apply (q : Fin 4) (w : IVec S32x512 8) (s : Vec Ideal S1x512 .f32) (r : Fin 16) (l : Fin 512) (p : Fin 32)
    (hp : p.val = 2 * r.val + q.val / 2) :
    piece q w s (ix2 r l) = value (code (q.val % 2) (w (ix2 p l))) * s (ix2 0 l) := by
  have lt (b : BitVec 8) : (low b).toNat < 16 := by rw [low_toNat]; omega
  have ht (b : BitVec 8) : (high b).toNat < 16 := by rw [high_toNat]; omega
  have cl (b : BitVec 8) : code 0 b = (low b).toNat := by rw [low_toNat]; rfl
  have ch (b : BitVec 8) : code 1 b = (high b).toNat := by rw [high_toNat]; rfl
  match q, hp with
  | 0, hp =>
    rw [show code ((0 : Fin 4).val % 2) (w (ix2 p l)) = _ from cl _]
    refine pick_apply s _ r l ⟨2 * r.val, by omega⟩ rfl _ (lt _) ?_
    rw [evenBytes_apply _ r l _ rfl ⟨r.val / 2, by omega⟩ rfl]
    exact lowWord_byte w _ l _ (by omega) p (by show p.val = 4 * (r.val / 2) + _; rw [hp]; show _ + 0 / 2 = _; omega)
  | 1, hp =>
    rw [show code ((1 : Fin 4).val % 2) (w (ix2 p l)) = _ from ch _]
    refine pick_apply s _ r l ⟨2 * r.val, by omega⟩ rfl _ (ht _) ?_
    rw [evenBytes_apply _ r l _ rfl ⟨r.val / 2, by omega⟩ rfl]
    exact highWord_byte w _ l _ (by omega) p (by show p.val = 4 * (r.val / 2) + _; rw [hp]; show _ + 1 / 2 = _; omega)
  | 2, hp =>
    rw [show code ((2 : Fin 4).val % 2) (w (ix2 p l)) = _ from cl _]
    refine pick_apply s _ r l ⟨2 * r.val, by omega⟩ rfl _ (lt _) ?_
    rw [oddBytes_apply _ r l _ rfl ⟨r.val / 2, by omega⟩ rfl]
    exact lowWord_byte w _ l _ (by omega) p (by show p.val = 4 * (r.val / 2) + _; rw [hp]; show _ + 2 / 2 = _; omega)
  | 3, hp =>
    rw [show code ((3 : Fin 4).val % 2) (w (ix2 p l)) = _ from ch _]
    refine pick_apply s _ r l ⟨2 * r.val, by omega⟩ rfl _ (ht _) ?_
    rw [oddBytes_apply _ r l _ rfl ⟨r.val / 2, by omega⟩ rfl]
    exact highWord_byte w _ l _ (by omega) p (by show p.val = 4 * (r.val / 2) + _; rw [hp]; show _ + 3 / 2 = _; omega)

/-- A tile's row is the weight of one channel. -/
theorem tile_apply (x1 : Vec Ideal S2304x512 .i8) (x2 : Vec Ideal S72x512 .f32) (k : Nat) (h : k < 18) (j : Fin 256) (l : Fin 512)
    (c : Fin 4608) (hc : c.val = 64 * (4 * k + j.val / 64) + 4 * (j.val % 16) + j.val % 64 / 16) :
    tile x1 x2 k h (ix2 j l) = weight x1 x2 c l := by
  let f : Fin 16 → (S16x512.Idx → EReal) := fun n =>
    piece ⟨n.val % 4, by omega⟩ (bytes (F := Ideal) x1 (4 * k + n.val / 4) (by omega)) (scale (F := Ideal) x2 (4 * k + n.val / 4) (by omega))
  have e : tile x1 x2 k h = concatenate S256x512 0 (List.ofFn fun n : Fin 16 => (⟨S16x512, f n⟩ : (s : Shape) × (s.Idx → EReal)))
      concatenates_S16x512_S16x512_S16x512_S16x512_S16x512_S16x512_S16x512_S16x512_S16x512_S16x512_S16x512_S16x512_S16x512_S16x512_S16x512_S16x512_S256x512_d0 := rfl
  rw [e, concatenate_ofFn_apply (s₁ := S16x512) (t := S256x512) 0 f concatenates_S16x512_S16x512_S16x512_S16x512_S16x512_S16x512_S16x512_S16x512_S16x512_S16x512_S16x512_S16x512_S16x512_S16x512_S16x512_S16x512_S256x512_d0 rfl 16 rfl (ix2 j l) ⟨j.val / 16, by omega⟩ rfl (ix2 ⟨j.val % 16, by omega⟩ l) rfl
    (fun b hb => match b with | ⟨0, _⟩ => absurd rfl hb | ⟨1, _⟩ => rfl)]
  have h1 : j.val % 64 / 16 = j.val / 16 % 4 := Nat.mod_mul_right_div_self j.val 16 4
  have h2 : j.val / 64 = j.val / 16 / 4 := (Nat.div_div_eq_div_mul j.val 16 4).symm
  rw [h1, h2] at hc
  have c2 : c.val % 2 = j.val / 16 % 4 % 2 := by omega
  have d2 : c.val / 2 = 32 * (4 * k + j.val / 16 / 4) + (2 * (j.val % 16) + j.val / 16 % 4 / 2) := by omega
  have d64 : c.val / 64 = 4 * k + j.val / 16 / 4 := by omega
  show piece _ _ _ _ = _
  rw [piece_apply _ _ _ _ l ⟨2 * (j.val % 16) + j.val / 16 % 4 / 2, by omega⟩ rfl]
  unfold weight
  congr 1
  · rw [c2]
    congr 2
    unfold bytes
    show x1 _ = x1 _
    congr 1
    funext b
    match b with
    | ⟨0, _⟩ => exact Fin.ext (by show 32 * (4 * k + j.val / 16 / 4) + 1 * (2 * (j.val % 16) + j.val / 16 % 4 / 2) = c.val / 2; omega)
    | ⟨1, _⟩ => exact Fin.ext (by show 0 + 1 * l.val = l.val; omega)
  · unfold scale
    show x2 _ = x2 _
    congr 1
    funext b
    match b with
    | ⟨0, _⟩ => exact Fin.ext (by show (4 * k + j.val / 16 / 4) + 1 * 0 = c.val / 64; omega)
    | ⟨1, _⟩ => exact Fin.ext (by show 0 + 1 * l.val = l.val; omega)

end Cert.KernelIdeal.Weights
-- ==== Proof.Product.lean ====
/- The kernel's block of the result, at the extended reals: one sum over the 4608 positions of the kernel's activations,
   and the same sum over the 4608 channels. -/
module

public import proofs.«01_k».proof.Proof.Weights
public import Idealize.ShloMosaic.Lib.MatmulPlain

@[expose] public section

noncomputable section

namespace Cert.KernelIdeal.Product

open Idealize.ShloMosaic hiding ix2
open Idealize.ShloMosaic.ValueIdx
open scoped BigOperators
open Cert.Nf4
open Cert.KernelIdeal Cert.KernelIdeal.Gen Cert.KernelIdeal.Body Cert.KernelIdeal.Weights

/-- Within 64 positions, `p` rows of `q` numbered row by row are the same positions numbered column by column. -/
theorem renumber (b p q i j : Nat) (hpq : p * q = 64) (hi : i < p) (hj : j < q) :
    (64 * b + q * i + j) / 64 = b ∧ (64 * b + q * i + j) % q = j ∧ (64 * b + q * i + j) % 64 / q = i := by
  have hlt : q * i + j < 64 := by nlinarith
  have hm : (64 * b + q * i + j) % 64 = q * i + j := by omega
  refine ⟨by omega, ?_, ?_⟩
  · rw [show 64 * b + q * i + j = j + q * (p * b + i) by rw [← hpq]; ring, Nat.add_mul_mod_self_left, Nat.mod_eq_of_lt hj]
  · rw [hm, Nat.mul_add_div (by omega), Nat.div_eq_of_lt hj, Nat.add_zero]

/-- The channel at a position of the kernel's activations: within 64 channels, the 4 residues modulo 4 one after another. -/
def channel : Fin 4608 ≃ Fin 4608 where
  toFun κ := ⟨64 * (κ.val / 64) + 4 * (κ.val % 16) + κ.val % 64 / 16, by omega⟩
  invFun c := ⟨64 * (c.val / 64) + 16 * (c.val % 4) + c.val % 64 / 4, by omega⟩
  left_inv κ := Fin.ext (by
    obtain ⟨h1, h2, h3⟩ := renumber (κ.val / 64) 16 4 (κ.val % 16) (κ.val % 64 / 16) rfl (by omega) (by omega)
    dsimp only
    rw [h1, h2, h3]
    omega)
  right_inv c := Fin.ext (by
    obtain ⟨h1, h2, h3⟩ := renumber (c.val / 64) 4 16 (c.val % 4) (c.val % 64 / 4) rfl (by omega) (by omega)
    dsimp only
    rw [h1, h2, h3]
    omega)

theorem channel_val (κ : Fin 4608) : (channel κ).val = 64 * (κ.val / 64) + 4 * (κ.val % 16) + κ.val % 64 / 16 := rfl

variable (x0 : Vec Ideal S192x4608 .bf16) (x1 : Vec Ideal S2304x512 .i8) (x2 : Vec Ideal S72x512 .f32) (m : Fin 192) (l : Fin 512)

/-- One term of the sum, by its position. -/
def term (κ : Nat) : EReal := if h : κ < 4608 then x0 (ix2 m ⟨κ, h⟩) * weight x1 x2 (channel ⟨κ, h⟩) l else 0

theorem cols_apply (k : Nat) (h : k < 18) (j : Fin 256) :
    cols x0 k h (ix2 m j) = x0 (ix2 m ⟨256 * k + j.val, by omega⟩) := by
  unfold cols
  refine (congrFun (shapeCast_self _ _) _).trans ?_
  show x0 _ = x0 _
  congr 1
  funext b
  match b with
  | ⟨0, _⟩ => exact Fin.ext (by show 0 + 1 * m.val = m.val; omega)
  | ⟨1, _⟩ => exact Fin.ext (by show 256 * k + 1 * j.val = 256 * k + j.val; omega)

/-- The accumulator after `k` tiles: the sum of the first `256 k` terms. -/
theorem acc_apply : ∀ (k : Nat) (h : k ≤ 18),
    acc x0 x1 x2 k h (ix2 m l) = ∑ κ ∈ Finset.range (256 * k), term x0 x1 x2 m l κ
  | 0, _ => by
    show Ideal.ofBits .f32 0x00000000#32 = _
    simp [Ideal.ofBits, Ideal.ieee]
  | k + 1, h => by
    rw [show 256 * (k + 1) = 256 * k + 256 by ring, Finset.sum_range_add, ← acc_apply k (by omega)]
    show acc x0 x1 x2 k _ (ix2 m l) + _ = _
    congr 1
    refine (Ideal.matmul_plain_apply none (cols x0 k h) (tile x1 x2 k h) (constant S192x512 .f32 0x00000000#32) m l).trans ?_
    rw [show (constant S192x512 .f32 0x00000000#32 : FVec Ideal S192x512 .f32) (ix2 m l) = 0 by
      show Ideal.ofBits .f32 0x00000000#32 = _
      simp [Ideal.ofBits, Ideal.ieee], zero_add, Finset.sum_range]
    refine Finset.sum_congr rfl fun j _ => ?_
    have hj : 256 * k + j.val < 4608 := by omega
    unfold term
    rw [dif_pos hj, cols_apply, tile_apply x1 x2 k h j l (channel ⟨256 * k + j.val, hj⟩) (by
      rw [channel_val]
      show 64 * ((256 * k + j.val) / 64) + 4 * ((256 * k + j.val) % 16) + (256 * k + j.val) % 64 / 16 = _
      rw [show (256 * k + j.val) / 64 = 4 * k + j.val / 64 by omega, show (256 * k + j.val) % 16 = j.val % 16 by omega,
        show (256 * k + j.val) % 64 = j.val % 64 by omega])]

/-- The block of the result: activations times weights, summed over the channels, for activations that are `x` permuted
    as `channel` says. -/
theorem out_apply (x : Fin 4608 → EReal) (hx : ∀ κ, x0 (ix2 m κ) = x (channel κ)) :
    out x0 x1 x2 (ix2 m l) = ∑ c : Fin 4608, x c * weight x1 x2 c l := by
  unfold out
  rw [truncf_apply, acc_apply, Finset.sum_range, ← Equiv.sum_comp channel fun c => x c * weight x1 x2 c l]
  refine Finset.sum_congr rfl fun κ _ => ?_
  unfold term
  rw [dif_pos κ.isLt, hx]

end Cert.KernelIdeal.Product
-- ==== Proof.KernelValue.lean ====
/- The kernel's result array, at the extended reals: the product of the activations and the weights. -/
module

public import proofs.«01_k».proof.Proof.Product
public import proofs.«01_k».proof.Proof.Gen.KernelIdeal.Value

@[expose] public section

noncomputable section

namespace Cert.KernelIdeal.Final

open Idealize.ShloMosaic hiding ix2 ix3 ix4 eq_ix2
open Idealize.ShloMosaic.TcCoe Idealize.ShloMosaic.ValueIdx Idealize.SL.Sem
open Cert.Nf4
open Cert.KernelIdeal Cert.KernelIdeal.Gen Cert.KernelIdeal.Product

variable (m : (ℓ : Loc nD τ sig) → Buf (Elt Ideal) ℓ) (c : Dev nD)

/-- The activations the kernel reads are the argument's, re-laid by three host operations. -/
theorem V_main_v2 : V m c main_v2 = shapeCast S192x4608 (transpose S192x72x4x16 [0, 1, 3, 2]
    (shapeCast S192x72x16x4 (m ((c : Thread nD τ).loc main_arg0)) shapeCasts_S192x1x4608_S192x72x16x4)
    transposes_S192x72x16x4_S192x72x4x16_0_1_3_2) shapeCasts_S192x72x4x16_S192x4608 := rfl

/-- They are the argument's permuted by `channel`. -/
theorem V_main_v2_apply (a : Fin 192) (κ : Fin 4608) :
    V m c main_v2 (ix2 a κ) = m ((c : Thread nD τ).loc main_arg0) (ix3 a (0 : Fin 1) (channel κ)) := by
  rw [V_main_v2]
  let i2 : S192x72x4x16.Idx := fun b => match b with
    | ⟨0, _⟩ => a
    | ⟨1, _⟩ => (⟨κ.val / 64, by omega⟩ : Fin 72)
    | ⟨2, _⟩ => (⟨κ.val % 64 / 16, by omega⟩ : Fin 4)
    | ⟨3, _⟩ => (⟨κ.val % 16, by omega⟩ : Fin 16)
  let i1 : S192x72x16x4.Idx := fun b => match b with
    | ⟨0, _⟩ => a
    | ⟨1, _⟩ => (⟨κ.val / 64, by omega⟩ : Fin 72)
    | ⟨2, _⟩ => (⟨κ.val % 16, by omega⟩ : Fin 16)
    | ⟨3, _⟩ => (⟨κ.val % 64 / 16, by omega⟩ : Fin 4)
  rw [shapeCast_apply _ shapeCasts_S192x72x4x16_S192x4608 (ix2 a κ) i2 (by
      rewrite [Shape.rowMajor_val_four, Shape.rowMajor_val_two]
      show ((a.val * 72 + κ.val / 64) * 4 + κ.val % 64 / 16) * 16 + κ.val % 16 = a.val * 4608 + κ.val
      omega),
    transpose_apply [0, 1, 3, 2] _ transposes_S192x72x16x4_S192x72x4x16_0_1_3_2 i2 i1 (fun b => match b with
      | ⟨0, _⟩ => rfl
      | ⟨1, _⟩ => rfl
      | ⟨2, _⟩ => rfl
      | ⟨3, _⟩ => rfl),
    shapeCast_apply _ shapeCasts_S192x1x4608_S192x72x16x4 i1 (ix3 a (0 : Fin 1) (channel κ)) (by
      rewrite [Shape.rowMajor_val_three, Shape.rowMajor_val_four]
      show (a.val * 1 + 0) * 4608 + (64 * (κ.val / 64) + 4 * (κ.val % 16) + κ.val % 64 / 16)
        = ((a.val * 72 + κ.val / 64) * 16 + κ.val % 16) * 4 + κ.val % 64 / 16
      omega)]

/-- The block of the windows along the columns at a grid point is the point's number. -/
theorem index_col : ∀ t : Fin grid0.N, win0_1.index t = ![0, t.val] ∧ win0_2.index t = ![0, t.val] ∧ win0_3.index t = ![0, t.val] := by
  decide +kernel

theorem index_whole : ∀ t : Fin grid0.N, win0_0.index t = ![0, 0] := by
  decide +kernel

/-- The column of the arrays at column `l` of a grid point's block. -/
def col (t : Fin cfg0.N) (l : Fin 512) : Fin 36864 :=
  ⟨512 * t.val + l.val, by have : t.val < 72 := t.isLt; omega⟩

theorem iblk0_apply (t : Fin cfg0.N) (a : Fin 192) (κ : Fin 4608) :
    iblk m c 0 t (ix2 a κ) = V m c main_v2 (ix2 a κ) := by
  show V m c main_v2 (((cfg0.win 0).blk t).view.emb (ix2 a κ)) = _
  congr 1
  funext b
  apply Fin.ext
  refine (win0_0.rect_emb_val_of_index_zero t b ?_ (ix2 a κ)).trans ?_
  · rw [index_whole t]; match b with | ⟨0, _⟩ => rfl | ⟨1, _⟩ => rfl
  · rfl

theorem iblk1_apply (t : Fin cfg0.N) (r : Fin 2304) (l : Fin 512) :
    iblk m c 1 t (ix2 r l) = m ((c : Thread nD τ).loc main_arg1) (ix2 r (col t l)) := by
  rw [← V_main_arg1 m c]
  show V m c main_arg1 (((cfg0.win 1).blk t).view.emb (ix2 r l)) = _
  congr 1
  funext b
  apply Fin.ext
  refine (win0_1.rect_emb_val t (ix2 r l) b).trans ?_
  rw [(index_col t).1]
  match b with
  | ⟨0, _⟩ => show 0 * 2304 + r.val = r.val; omega
  | ⟨1, _⟩ => show t.val * 512 + l.val = 512 * t.val + l.val; omega

theorem iblk2_apply (t : Fin cfg0.N) (r : Fin 72) (l : Fin 512) :
    iblk m c 2 t (ix2 r l) = m ((c : Thread nD τ).loc main_arg2) (ix2 r (col t l)) := by
  rw [← V_main_arg2 m c]
  show V m c main_arg2 (((cfg0.win 2).blk t).view.emb (ix2 r l)) = _
  congr 1
  funext b
  apply Fin.ext
  refine (win0_2.rect_emb_val t (ix2 r l) b).trans ?_
  rw [(index_col t).2.1]
  match b with
  | ⟨0, _⟩ => show 0 * 72 + r.val = r.val; omega
  | ⟨1, _⟩ => show t.val * 512 + l.val = 512 * t.val + l.val; omega

theorem emb3 (t : Fin cfg0.N) (a : Fin 192) (l : Fin 512) : ((cfg0.win 3).blk t).view.emb (ix2 a l) = ix2 a (col t l) := by
  funext b
  apply Fin.ext
  refine (win0_3.rect_emb_val t (ix2 a l) b).trans ?_
  rw [(index_col t).2.2]
  match b with
  | ⟨0, _⟩ => show 0 * 192 + a.val = a.val; omega
  | ⟨1, _⟩ => show t.val * 512 + l.val = 512 * t.val + l.val; omega

/-- The product of the three arguments. -/
abbrev result : Buf (Elt Ideal) ((c : Thread nD τ).loc main_v3) :=
  product (m ((c : Thread nD τ).loc main_arg0)) (m ((c : Thread nD τ).loc main_arg1)) (m ((c : Thread nD τ).loc main_arg2))

/-- What a grid point writes back is its block of the product. -/
theorem flushed_eq (t : Fin cfg0.N) : (dats m 0 c).flushed 3 t = ((cfg0.win 3).blk t).view.read (Elt Ideal) (result m c) := by
  rw [Value.flushed3]
  funext j
  obtain ⟨a, l, rfl⟩ : ∃ (a : Fin 192) (l : Fin 512), j = ix2 a l := ⟨_, _, eq_ix2 j⟩
  show out0_3 (iblk m c 0 t) (iblk m c 1 t) (iblk m c 2 t) (ix2 a l) = result m c (((cfg0.win 3).blk t).view.emb (ix2 a l))
  rw [emb3, Body.out_eq, out_apply _ _ _ a l (fun k => m ((c : Thread nD τ).loc main_arg0) (ix3 a (0 : Fin 1) k))
    (fun κ => (iblk0_apply m c t a κ).trans (V_main_v2_apply m c a κ))]
  refine Finset.sum_congr rfl fun k _ => congrArg _ ?_
  unfold weight
  rw [iblk1_apply, iblk2_apply]

/-- The result array is the product. -/
theorem final : (dats m 0 c).arrAt 3 cfg0.N = result m c := by
  refine (dats m 0 c).arrAt_eq_of_cover 3 (result m c) (fun t _ => flushed_eq m c t) fun i => ?_
  obtain ⟨a, n, rfl⟩ : ∃ (a : Fin 192) (n : Fin 36864), i = ix2 a n := ⟨_, _, eq_ix2 (n0 := 192) (n1 := 36864) i⟩
  let t : Fin cfg0.N := ⟨n.val / 512, by show _ < 72; omega⟩
  have e := emb3 t a ⟨n.val % 512, by omega⟩
  rw [show col t ⟨n.val % 512, by omega⟩ = n from Fin.ext (by show 512 * (n.val / 512) + n.val % 512 = n.val; omega)] at e
  exact ⟨t, flush0_3 t, e ▸ ((cfg0.win 3).blk t).view.emb_mem_set _⟩

end Cert.KernelIdeal.Final
-- ==== Proof.RefValue.lean ====
/- The reference's result array, at the extended reals: the product of the activations and the weights. -/
module

public import proofs.«01_k».proof.Proof.Nf4
public import proofs.«01_k».proof.Proof.Gen.ReferenceIdeal.Read
public import Idealize.ShloMosaic.Lib.TwoAxisContraction
public import Idealize.ShloMosaic.PureOps.Ideal.Laws
public import Mathlib.Tactic.IntervalCases

@[expose] public section

noncomputable section

namespace Cert.ReferenceIdeal.Final

open Idealize.ShloMosaic
open Idealize.ShloMosaic.TcCoe Idealize.ShloMosaic.ValueIdx Idealize.SL.Sem
open scoped BigOperators
open Cert.Nf4
open Cert.ReferenceIdeal Cert.ReferenceIdeal.Gen Cert.ReferenceIdeal.Read

/-- One of two numbers by a bit of a code. -/
def byBit (v b : BitVec 32) (x y : EReal) : EReal := Scalar.select (IntOp.cmpi .ne (IntOp.andi v b) 0#32) x y

/-- The value of a code by its bits, the highest bit first. -/
def byBits (v : BitVec 32) : EReal :=
  byBit v 8#32
    (byBit v 4#32
      (byBit v 2#32 (byBit v 1#32 (value 15) (value 14)) (byBit v 1#32 (value 13) (value 12)))
      (byBit v 2#32 (byBit v 1#32 (value 11) (value 10)) (byBit v 1#32 (value 9) (value 8))))
    (byBit v 4#32
      (byBit v 2#32 (byBit v 1#32 (value 7) (value 6)) (byBit v 1#32 (value 5) (value 4)))
      (byBit v 2#32 (byBit v 1#32 (value 3) (value 2)) (byBit v 1#32 (value 1) (value 0))))

theorem byBits_ofNat (n : Nat) (h : n < 16) : byBits (BitVec.ofNat 32 n) = value n := by
  interval_cases n <;> rfl

theorem byBits_eq (v : BitVec 32) (h : v.toNat < 16) : byBits v = value v.toNat := by
  have e : v = BitVec.ofNat 32 v.toNat := by simp
  rw [e, byBits_ofNat _ h, ← e]

variable (x0 : S192x1x4608.Idx → EReal) (x1 : S2304x36864.Idx → BitVec 8) (x2 : S72x36864.Idx → EReal)

theorem low_apply (i : S2304x36864.Idx) : val_main_v35 (F := Ideal) x1 i = value (code 0 (x1 i)) := by
  have h : (val_main_v2 (F := Ideal) x1 i).toNat = (x1 i).toNat % 16 := by
    show ((x1 i).setWidth 32 &&& 15#32).toNat = _
    have := (x1 i).isLt
    rw [BitVec.toNat_and, BitVec.toNat_setWidth]
    show ((x1 i).toNat % 2 ^ 32) &&& (2 ^ 4 - 1) = _
    rw [Nat.and_two_pow_sub_one_eq_mod]
    omega
  have e : val_main_v35 (F := Ideal) x1 i = byBits (val_main_v2 (F := Ideal) x1 i) := rfl
  rw [e, byBits_eq _ (by rw [h]; omega), h]
  rfl

theorem high_apply (i : S2304x36864.Idx) : val_main_v72 (F := Ideal) x1 i = value (code 1 (x1 i)) := by
  have hb := (x1 i).isLt
  have h : (val_main_v4 (F := Ideal) x1 i).toNat = (x1 i).toNat / 16 := by
    show ((x1 i).setWidth 32 >>> 4).toNat = _
    rw [BitVec.toNat_ushiftRight, BitVec.toNat_setWidth, Nat.shiftRight_eq_div_pow]
    omega
  have e : val_main_v72 (F := Ideal) x1 i = byBits (val_main_v4 (F := Ideal) x1 i) := rfl
  rw [e, byBits_eq _ (by rw [h]; omega), h]
  rfl

/-- Rows of 36864 elements, 32 to a group, at a row's element. -/
theorem flat (r n : Nat) (hn : n < 36864) :
    (r * 36864 + n) / 1179648 = r / 32 ∧ (r * 36864 + n) / 36864 = r ∧ (r * 36864 + n) % 36864 = n := by
  have h : (r * 36864 + n) / 36864 = r := by omega
  refine ⟨?_, h, by omega⟩
  rw [show 1179648 = 36864 * 32 from rfl, ← Nat.div_div_eq_div_mul, h]

/-- The group and the place in the group of a row. -/
theorem idx40 (r : Fin 2304) (n : Fin 36864) :
    idx_main_v40 (ix2 r n) = ix3 (⟨r.val / 32, by omega⟩ : Fin 72) (⟨r.val % 32, by omega⟩ : Fin 32) n := by
  obtain ⟨h1, h2, h3⟩ := flat r.val n.val n.isLt
  funext b
  match b with
  | ⟨0, _⟩ => exact Fin.ext h1
  | ⟨1, _⟩ => exact Fin.ext (by show (r.val * 36864 + n.val) / 36864 % 32 = r.val % 32; rw [h2])
  | ⟨2, _⟩ => exact Fin.ext h3

theorem idx36 (r : Fin 2304) (n : Fin 36864) :
    idx_main_v36 (ix3 (⟨r.val / 32, by omega⟩ : Fin 72) (⟨r.val % 32, by omega⟩ : Fin 32) n) = ix2 r n := by
  obtain ⟨_, h2, h3⟩ := flat r.val n.val n.isLt
  have hr : r.val / 32 * 32 + r.val % 32 = r.val := by omega
  funext b
  match b with
  | ⟨0, _⟩ => exact Fin.ext (by show ((r.val / 32 * 32 + r.val % 32) * 36864 + n.val) / 36864 = r.val; rw [hr, h2])
  | ⟨1, _⟩ => exact Fin.ext (by show ((r.val / 32 * 32 + r.val % 32) * 36864 + n.val) % 36864 = n.val; rw [hr, h3])

/-- The weights of the even channels. -/
theorem v41_apply (r : Fin 2304) (n : Fin 36864) :
    val_main_v41 (F := Ideal) x1 x2 (ix2 r n) = value (code 0 (x1 (ix2 r n))) * x2 (ix2 ⟨r.val / 32, by omega⟩ n) := by
  rw [val_main_v41_apply, val_main_v40_apply, val_main_v39_apply, idx40, val_main_v36_apply, idx36, low_apply,
    val_main_v38_apply, val_main_v37_apply]
  show _ * x2 _ = _
  congr 2
  funext b
  match b with
  | ⟨0, _⟩ => rfl
  | ⟨1, _⟩ => rfl

/-- The weights of the odd channels. -/
theorem v78_apply (r : Fin 2304) (n : Fin 36864) :
    val_main_v78 (F := Ideal) x1 x2 (ix2 r n) = value (code 1 (x1 (ix2 r n))) * x2 (ix2 ⟨r.val / 32, by omega⟩ n) := by
  have e : val_main_v78 (F := Ideal) x1 x2 (ix2 r n) = val_main_v77 (F := Ideal) x1 x2 (ix2 r n) := rfl
  have e40 : idx_main_v77 (ix2 r n) = _ := idx40 r n
  have e36 : idx_main_v73 (ix3 (⟨r.val / 32, by omega⟩ : Fin 72) (⟨r.val % 32, by omega⟩ : Fin 32) n) = _ := idx36 r n
  rw [e, val_main_v77_apply, val_main_v76_apply, e40, val_main_v73_apply, e36, high_apply,
    val_main_v75_apply, val_main_v74_apply]
  show _ * x2 _ = _
  congr 2
  funext b
  match b with
  | ⟨0, _⟩ => rfl
  | ⟨1, _⟩ => rfl

/-- The channel of byte row `r` and code `p`. -/
def chan (p : Fin 2) (r : Fin 2304) : Fin 4608 := ⟨2 * r.val + p.val, by omega⟩

/-- The weights, the codes of a byte row on an axis of their own. -/
theorem v81_apply (p : Fin 2) (r : Fin 2304) (n : Fin 36864) :
    val_main_v81 (F := Ideal) x1 x2 (ix3 p r n) = weight x1 x2 (chan p r) n := by
  let f : Fin 2 → (S1x2304x36864.Idx → EReal) := ![val_main_v79 (F := Ideal) x1 x2, val_main_v80 (F := Ideal) x1 x2]
  have e : val_main_v81 (F := Ideal) x1 x2 = concatenate S2x2304x36864 0 (List.ofFn fun q : Fin 2 => (⟨S1x2304x36864, f q⟩ : (s : Shape) × (s.Idx → EReal)))
      concatenates_S1x2304x36864_S1x2304x36864_S2x2304x36864_d0 := rfl
  rw [e, concatenate_ofFn_apply (s₁ := S1x2304x36864) (t := S2x2304x36864) 0 f concatenates_S1x2304x36864_S1x2304x36864_S2x2304x36864_d0
    rfl 1 rfl (ix3 p r n) p (Nat.div_one _) (ix3 (0 : Fin 1) r n) (Nat.mod_one _).symm
    (fun b hb => match b with | ⟨0, _⟩ => absurd rfl hb | ⟨1, _⟩ => rfl | ⟨2, _⟩ => rfl)]
  have hi : idx_main_v79 (ix3 (0 : Fin 1) r n) = ix2 r n := by
    funext b; match b with | ⟨0, _⟩ => rfl | ⟨1, _⟩ => rfl
  unfold weight
  have h64 : (⟨(chan p r).val / 64, by omega⟩ : Fin 72) = ⟨r.val / 32, by omega⟩ := Fin.ext (by show (2 * r.val + p.val) / 64 = r.val / 32; omega)
  have h2 : (⟨(chan p r).val / 2, by omega⟩ : Fin 2304) = r := Fin.ext (by show (2 * r.val + p.val) / 2 = r.val; omega)
  have hm : (chan p r).val % 2 = p.val := by show (2 * r.val + p.val) % 2 = _; omega
  rw [h64, h2, hm]
  match p with
  | 0 =>
    show val_main_v79 (F := Ideal) x1 x2 (ix3 (0 : Fin 1) r n) = _
    rw [val_main_v79_apply, hi]
    exact v41_apply x1 x2 r n
  | 1 =>
    show val_main_v80 (F := Ideal) x1 x2 (ix3 (0 : Fin 1) r n) = _
    rw [val_main_v80_apply, show idx_main_v80 (ix3 (0 : Fin 1) r n) = ix2 r n from hi]
    exact v78_apply x1 x2 r n

/-- The activations, the two channels of a byte row on an axis of their own. -/
theorem v83_apply (a : Fin 192) (p : Fin 2) (r : Fin 2304) :
    val_main_v83 (F := Ideal) x0 (ix3 a p r) = x0 (ix3 a (0 : Fin 1) (chan p r)) := by
  rw [val_main_v83_apply, val_main_v82_apply]
  congr 1
  funext b
  match b with
  | ⟨0, _⟩ => exact Fin.ext (by show ((a.val * 2304 + r.val) * 2 + p.val) / 4608 = a.val; omega)
  | ⟨1, _⟩ => rfl
  | ⟨2, _⟩ => exact Fin.ext (by show ((a.val * 2304 + r.val) * 2 + p.val) % 4608 = 2 * r.val + p.val; omega)

abbrev D := dot_S192x2x2304_S2x2304x36864_S192x36864_12_01_0_2_n_n

/-- The contraction over a byte row's two codes and over the byte rows. -/
theorem v84_apply (a : Fin 192) (n : Fin 36864) :
    val_main_v84 (F := Ideal) x0 x1 x2 (ix2 a n)
      = ∑ p : Fin 2, ∑ r : Fin 2304, x0 (ix3 a (0 : Fin 1) (chan p r)) * weight x1 x2 (chan p r) n := by
  unfold val_main_v84 Host.dotGeneral
  rw [Ideal.dotGeneral_apply, sum_contr2 D 2 2304 rfl rfl rfl]
  refine Finset.sum_congr rfl fun p _ => Finset.sum_congr rfl fun r _ => ?_
  have h0 := contrEquiv2_symm_val0 D 2 2304 rfl rfl rfl (p, r)
  have h1 := contrEquiv2_symm_val1 D 2 2304 rfl rfl rfl (p, r)
  have el : D.lhsIdx (ix2 a n) ((contrEquiv2 D 2 2304 rfl rfl rfl).symm (p, r)) = ix3 a p r := by
    funext b; apply Fin.ext
    match b with
    | ⟨0, _⟩ => rfl
    | ⟨1, _⟩ => exact h0
    | ⟨2, _⟩ => exact h1
  have er : D.rhsIdx (ix2 a n) ((contrEquiv2 D 2 2304 rfl rfl rfl).symm (p, r)) = ix3 p r n := by
    funext b; apply Fin.ext
    match b with
    | ⟨0, _⟩ => exact h0
    | ⟨1, _⟩ => exact h1
    | ⟨2, _⟩ => rfl
  rw [el, er, v83_apply, v81_apply]

/-- The reference's result is the product. -/
theorem v85_eq : val_main_v85 (F := Ideal) x0 x1 x2 = product x0 x1 x2 := by
  funext i
  obtain ⟨a, n, rfl⟩ : ∃ (a : Fin 192) (n : Fin 36864), i = ix2 a n := ⟨_, _, eq_ix2 i⟩
  have e : val_main_v85 (F := Ideal) x0 x1 x2 (ix2 a n) = val_main_v84 (F := Ideal) x0 x1 x2 (ix2 a n) := rfl
  rw [e, v84_apply, Finset.sum_comm, ← Fintype.sum_prod_type']
  refine Fintype.sum_equiv (finProdFinEquiv (m := 2304) (n := 2)) _ _ fun q => ?_
  have hq : chan q.2 q.1 = finProdFinEquiv q := Fin.ext (by show 2 * q.1.val + q.2.val = q.2.val + 2 * q.1.val; omega)
  rw [hq]

end Cert.ReferenceIdeal.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.KernelValue
public import proofs.«01_k».proof.Proof.RefValue
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and keeps its arguments; it has no semaphores. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference end with the same result: both compute the product of the activations with
the dequantised weights, the one by tiles in its own order of channels, the other at once. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Final.result m c, ?_, ?_⟩
  · refine (θ_run (Cert.KernelIdeal.defs (F := Ideal)) _ _).mono (fun r h c => ?_)
      (Cert.KernelIdeal.Value.run_blocks (F := Ideal) m g)
    exact ⟨(h c).1.trans (Cert.KernelIdeal.Final.final m c), (h c).2⟩
  · refine (θ_run (Cert.ReferenceIdeal.defs (F := Ideal)) _ _).mono (fun r h c => ?_)
      (Cert.ReferenceIdeal.Value.run (F := Ideal) m' g')
    obtain ⟨hv, hkept⟩ := h c
    refine ⟨hv.trans ?_, hkept⟩
    obtain ⟨h0, h1, h2⟩ := hargs c
    rw [Cert.ReferenceIdeal.Read.val_main_v85_eq, Cert.ReferenceIdeal.Final.v85_eq, h0, h1, h2]

/-- The whole claim: the three frames, the rewrite of the packed pairs, and the equality of values. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    ⟨IdealRules.bf16_pair.packStatement Cert.KernelIdeal.S8x512,
      IdealRules.bf16_pair.statement Cert.KernelIdeal.S16x512 Cert.KernelIdeal.S8x512⟩,
    algebraic⟩

end Cert.Proof

end
